-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S32x32x32x1024 : Shape := ⟨4, ![32, 32, 32, 1024]⟩
abbrev S1024x1x3x3 : Shape := ⟨4, ![1024, 1, 3, 3]⟩
abbrev S9x1024x1x1 : Shape := ⟨4, ![9, 1024, 1, 1]⟩
abbrev S9 : Shape := ⟨1, ![9]⟩
abbrev S_ : Shape := ⟨0, ![]⟩

class Facts : Prop where
  bcast_S_S32x32x32x1024 : S_.BroadcastsInDim S32x32x32x1024 (![] : Fin 0 → Fin S32x32x32x1024.rank)
  reducesTo_S32x32x32x1024_S_d0_1_2_3 : S32x32x32x1024.ReducesTo [0, 1, 2, 3] S_
  h_S_ : 0 < S_.numel
  bcast_S_S1024x1x3x3 : S_.BroadcastsInDim S1024x1x3x3 (![] : Fin 0 → Fin S1024x1x3x3.rank)
  reducesTo_S1024x1x3x3_S_d0_1_2_3 : S1024x1x3x3.ReducesTo [0, 1, 2, 3] S_
  bcast_S_S9x1024x1x1 : S_.BroadcastsInDim S9x1024x1x1 (![] : Fin 0 → Fin S9x1024x1x1.rank)
  reducesTo_S9x1024x1x1_S_d0_1_2_3 : S9x1024x1x1.ReducesTo [0, 1, 2, 3] S_

variable [Facts]

def fn {F : FTy → Type} [FloatOps F] (main_arg0 : FVec F S32x32x32x1024 .f32) (main_arg1 : FVec F S1024x1x3x3 .f32) (main_arg2 : FVec F S9x1024x1x1 .f32) (main_arg3 : FVec F S9 .f32) : IVec S_ 1 :=
  let main_v0 : FVec F S32x32x32x1024 .f32 := Host.absf main_arg0
  let main_cst : FVec F S_ .f32 := constant S_ .f32 0x7F800000#32
  let main_v1 : FVec F S32x32x32x1024 .f32 := broadcastInDim S32x32x32x1024 ![] bcast_S_S32x32x32x1024 main_cst
  let main_v2 : IVec S32x32x32x1024 1 := cmpf .olt main_v0 main_v1
  let main_c : IVec S_ 1 := constantI S_ 1 1#1
  let main_v3 : IVec S_ 1 := (fun x v => Host.reduce IntOp.andi x v reducesTo_S32x32x32x1024_S_d0_1_2_3 h_S_) main_v2 main_c
  let main_v4 : FVec F S1024x1x3x3 .f32 := Host.absf main_arg1
  let main_cst_0 : FVec F S_ .f32 := constant S_ .f32 0x7F800000#32
  let main_v5 : FVec F S1024x1x3x3 .f32 := broadcastInDim S1024x1x3x3 ![] bcast_S_S1024x1x3x3 main_cst_0
  let main_v6 : IVec S1024x1x3x3 1 := cmpf .olt main_v4 main_v5
  let main_c_1 : IVec S_ 1 := constantI S_ 1 1#1
  let main_v7 : IVec S_ 1 := (fun x v => Host.reduce IntOp.andi x v reducesTo_S1024x1x3x3_S_d0_1_2_3 h_S_) main_v6 main_c_1
  let main_v8 : IVec S_ 1 := andi main_v3 main_v7
  let main_v9 : FVec F S9x1024x1x1 .f32 := Host.absf main_arg2
  let main_cst_2 : FVec F S_ .f32 := constant S_ .f32 0x7F800000#32
  let main_v10 : FVec F S9x1024x1x1 .f32 := broadcastInDim S9x1024x1x1 ![] bcast_S_S9x1024x1x1 main_cst_2
  let main_v11 : IVec S9x1024x1x1 1 := cmpf .olt main_v9 main_v10
  let main_c_3 : IVec S_ 1 := constantI S_ 1 1#1
  let main_v12 : IVec S_ 1 := (fun x v => Host.reduce IntOp.andi x v reducesTo_S9x1024x1x1_S_d0_1_2_3 h_S_) main_v11 main_c_3
  let main_v13 : IVec S_ 1 := andi main_v8 main_v12
  main_v13
-- ==== Kernel.lean ====
abbrev S32x32x32x1024 : Shape := ⟨4, ![32, 32, 32, 1024]⟩
abbrev S1024x1x3x3 : Shape := ⟨4, ![1024, 1, 3, 3]⟩
abbrev S9x1024x1x1 : Shape := ⟨4, ![9, 1024, 1, 1]⟩
abbrev S9 : Shape := ⟨1, ![9]⟩
abbrev S32x1024x1024 : Shape := ⟨3, ![32, 1024, 1024]⟩
abbrev S1024x9 : Shape := ⟨2, ![1024, 9]⟩
abbrev S9x1024 : Shape := ⟨2, ![9, 1024]⟩
abbrev S1024x9x1 : Shape := ⟨3, ![1024, 9, 1]⟩
abbrev S1024x1x9 : Shape := ⟨3, ![1024, 1, 9]⟩
abbrev S1024x9x9 : Shape := ⟨3, ![1024, 9, 9]⟩
abbrev S1024x81 : Shape := ⟨2, ![1024, 81]⟩
abbrev S1x9 : Shape := ⟨2, ![1, 9]⟩
abbrev S16x1024x9 : Shape := ⟨3, ![16, 1024, 9]⟩
abbrev S2x1024x1024 : Shape := ⟨3, ![2, 1024, 1024]⟩
abbrev S2x1024x9 : Shape := ⟨3, ![2, 1024, 9]⟩
abbrev S2048x1024 : Shape := ⟨2, ![2048, 1024]⟩
abbrev S2048x81 : Shape := ⟨2, ![2048, 81]⟩
abbrev S1x81 : Shape := ⟨2, ![1, 81]⟩
abbrev S2047x81 : Shape := ⟨2, ![2047, 81]⟩
abbrev S32x81 : Shape := ⟨2, ![32, 81]⟩
abbrev S2016x81 : Shape := ⟨2, ![2016, 81]⟩
abbrev S81x9 : Shape := ⟨2, ![81, 9]⟩
abbrev S2048x9 : Shape := ⟨2, ![2048, 9]⟩
abbrev S2048 : Shape := ⟨1, ![2048]⟩
abbrev S2048x1 : Shape := ⟨2, ![2048, 1]⟩
abbrev S8x2x1024x9 : Shape := ⟨4, ![8, 2, 1024, 9]⟩
abbrev S8x4x1024x9 : Shape := ⟨4, ![8, 4, 1024, 9]⟩
abbrev S32x32x32x9 : Shape := ⟨4, ![32, 32, 32, 9]⟩

abbrev nBuf : Space → Nat
  | .hbm => 21
  | .vmem => 10
  | .smem => 0
  | _ => 0

abbrev bufTy : (tb : Table) → Fin (tcTables nBuf tb) → BufTy
  | .hbm, ⟨0, _⟩ => ⟨S32x32x32x1024, .f32⟩
  | .hbm, ⟨1, _⟩ => ⟨S1024x1x3x3, .f32⟩
  | .hbm, ⟨2, _⟩ => ⟨S9x1024x1x1, .f32⟩
  | .hbm, ⟨3, _⟩ => ⟨S9, .f32⟩
  | .hbm, ⟨4, _⟩ => ⟨S32x1024x1024, .f32⟩
  | .hbm, ⟨5, _⟩ => ⟨S1024x9, .f32⟩
  | .hbm, ⟨6, _⟩ => ⟨S9x1024, .f32⟩
  | .hbm, ⟨7, _⟩ => ⟨S1024x9, .f32⟩
  | .hbm, ⟨8, _⟩ => ⟨S1024x9x1, .f32⟩
  | .hbm, ⟨9, _⟩ => ⟨S1024x1x9, .f32⟩
  | .hbm, ⟨10, _⟩ => ⟨S1024x9x9, .f32⟩
  | .hbm, ⟨11, _⟩ => ⟨S1024x9x9, .f32⟩
  | .hbm, ⟨12, _⟩ => ⟨S1024x9x9, .f32⟩
  | .hbm, ⟨13, _⟩ => ⟨S1024x81, .f32⟩
  | .hbm, ⟨14, _⟩ => ⟨S1x9, .f32⟩
  | .hbm, ⟨15, _⟩ => ⟨S16x1024x9, .f32⟩
  | .hbm, ⟨16, _⟩ => ⟨S16x1024x9, .f32⟩
  | .hbm, ⟨17, _⟩ => ⟨S8x2x1024x9, .f32⟩
  | .hbm, ⟨18, _⟩ => ⟨S8x2x1024x9, .f32⟩
  | .hbm, ⟨19, _⟩ => ⟨S8x4x1024x9, .f32⟩
  | .hbm, ⟨20, _⟩ => ⟨S32x32x32x9, .f32⟩
  | .local _ .vmem, ⟨0, _⟩ => ⟨S2x1024x1024, .f32⟩
  | .local _ .vmem, ⟨1, _⟩ => ⟨S2x1024x1024, .f32⟩
  | .local _ .vmem, ⟨2, _⟩ => ⟨S2x1024x1024, .f32⟩
  | .local _ .vmem, ⟨3, _⟩ => ⟨S2x1024x1024, .f32⟩
  | .local _ .vmem, ⟨4, _⟩ => ⟨S1024x81, .f32⟩
  | .local _ .vmem, ⟨5, _⟩ => ⟨S1x9, .f32⟩
  | .local _ .vmem, ⟨6, _⟩ => ⟨S2x1024x9, .f32⟩
  | .local _ .vmem, ⟨7, _⟩ => ⟨S2x1024x9, .f32⟩
  | .local _ .vmem, ⟨8, _⟩ => ⟨S2x1024x9, .f32⟩
  | .local _ .vmem, ⟨9, _⟩ => ⟨S2x1024x9, .f32⟩
  | _, _ => ⟨S32x32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x81 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1024x9 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1024x9 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x32x32x1024 : Shape := ⟨4, ![32, 32, 32, 1024]⟩
abbrev S1024x1x3x3 : Shape := ⟨4, ![1024, 1, 3, 3]⟩
abbrev S9x1024x1x1 : Shape := ⟨4, ![9, 1024, 1, 1]⟩
abbrev S9 : Shape := ⟨1, ![9]⟩
abbrev S_ : Shape := ⟨0, ![]⟩
abbrev S32x34x34x1024 : Shape := ⟨4, ![32, 34, 34, 1024]⟩
abbrev S1024x1x1x1 : Shape := ⟨4, ![1024, 1, 1, 1]⟩
abbrev S1024 : Shape := ⟨1, ![1024]⟩
abbrev S1x1x1x1024 : Shape := ⟨4, ![1, 1, 1, 1024]⟩
abbrev S9x1024 : Shape := ⟨2, ![9, 1024]⟩
abbrev S32x32x32x9 : Shape := ⟨4, ![32, 32, 32, 9]⟩
abbrev S1x1x1x9 : Shape := ⟨4, ![1, 1, 1, 9]⟩
abbrev S32x32x32 : Shape := ⟨3, ![32, 32, 32]⟩
abbrev S32x32x32x1 : Shape := ⟨4, ![32, 32, 32, 1]⟩

abbrev nBuf : Space → Nat
  | .hbm => 91
  | .vmem => 0
  | .smem => 0
  | _ => 0

abbrev bufTy : (tb : Table) → Fin (tcTables nBuf tb) → BufTy
  | .hbm, ⟨0, _⟩ => ⟨S32x32x32x1024, .f32⟩
  | .hbm, ⟨1, _⟩ => ⟨S1024x1x3x3, .f32⟩
  | .hbm, ⟨2, _⟩ => ⟨S9x1024x1x1, .f32⟩
  | .hbm, ⟨3, _⟩ => ⟨S9, .f32⟩
  | .hbm, ⟨4, _⟩ => ⟨S_, .i32⟩
  | .hbm, ⟨5, _⟩ => ⟨S_, .f32⟩
  | .hbm, ⟨6, _⟩ => ⟨S32x34x34x1024, .f32⟩
  | .hbm, ⟨7, _⟩ => ⟨S_, .f32⟩
  | .hbm, ⟨8, _⟩ => ⟨S32x32x32x1024, .f32⟩
  | .hbm, ⟨9, _⟩ => ⟨S32x32x32x1024, .f32⟩
  | .hbm, ⟨10, _⟩ => ⟨S1024x1x1x1, .f32⟩
  | .hbm, ⟨11, _⟩ => ⟨S1024, .f32⟩
  | .hbm, ⟨12, _⟩ => ⟨S1x1x1x1024, .f32⟩
  | .hbm, ⟨13, _⟩ => ⟨S32x32x32x1024, .f32⟩
  | .hbm, ⟨14, _⟩ => ⟨S32x32x32x1024, .f32⟩
  | .hbm, ⟨15, _⟩ => ⟨S32x32x32x1024, .f32⟩
  | .hbm, ⟨16, _⟩ => ⟨S32x32x32x1024, .f32⟩
  | .hbm, ⟨17, _⟩ => ⟨S1024x1x1x1, .f32⟩
  | .hbm, ⟨18, _⟩ => ⟨S1024, .f32⟩
  | .hbm, ⟨19, _⟩ => ⟨S1x1x1x1024, .f32⟩
  | .hbm, ⟨20, _⟩ => ⟨S32x32x32x1024, .f32⟩
  | .hbm, ⟨21, _⟩ => ⟨S32x32x32x1024, .f32⟩
  | .hbm, ⟨22, _⟩ => ⟨S32x32x32x1024, .f32⟩
  | .hbm, ⟨23, _⟩ => ⟨S32x32x32x1024, .f32⟩
  | .hbm, ⟨24, _⟩ => ⟨S1024x1x1x1, .f32⟩
  | .hbm, ⟨25, _⟩ => ⟨S1024, .f32⟩
  | .hbm, ⟨26, _⟩ => ⟨S1x1x1x1024, .f32⟩
  | .hbm, ⟨27, _⟩ => ⟨S32x32x32x1024, .f32⟩
  | .hbm, ⟨28, _⟩ => ⟨S32x32x32x1024, .f32⟩
  | .hbm, ⟨29, _⟩ => ⟨S32x32x32x1024, .f32⟩
  | .hbm, ⟨30, _⟩ => ⟨S32x32x32x1024, .f32⟩
  | .hbm, ⟨31, _⟩ => ⟨S1024x1x1x1, .f32⟩
  | .hbm, ⟨32, _⟩ => ⟨S1024, .f32⟩
  | .hbm, ⟨33, _⟩ => ⟨S1x1x1x1024, .f32⟩
  | .hbm, ⟨34, _⟩ => ⟨S32x32x32x1024, .f32⟩
  | .hbm, ⟨35, _⟩ => ⟨S32x32x32x1024, .f32⟩
  | .hbm, ⟨36, _⟩ => ⟨S32x32x32x1024, .f32⟩
  | .hbm, ⟨37, _⟩ => ⟨S32x32x32x1024, .f32⟩
  | .hbm, ⟨38, _⟩ => ⟨S1024x1x1x1, .f32⟩
  | .hbm, ⟨39, _⟩ => ⟨S1024, .f32⟩
  | .hbm, ⟨40, _⟩ => ⟨S1x1x1x1024, .f32⟩
  | .hbm, ⟨41, _⟩ => ⟨S32x32x32x1024, .f32⟩
  | .hbm, ⟨42, _⟩ => ⟨S32x32x32x1024, .f32⟩
  | .hbm, ⟨43, _⟩ => ⟨S32x32x32x1024, .f32⟩
  | .hbm, ⟨44, _⟩ => ⟨S32x32x32x1024, .f32⟩
  | .hbm, ⟨45, _⟩ => ⟨S1024x1x1x1, .f32⟩
  | .hbm, ⟨46, _⟩ => ⟨S1024, .f32⟩
  | .hbm, ⟨47, _⟩ => ⟨S1x1x1x1024, .f32⟩
  | .hbm, ⟨48, _⟩ => ⟨S32x32x32x1024, .f32⟩
  | .hbm, ⟨49, _⟩ => ⟨S32x32x32x1024, .f32⟩
  | .hbm, ⟨50, _⟩ => ⟨S32x32x32x1024, .f32⟩
  | .hbm, ⟨51, _⟩ => ⟨S32x32x32x1024, .f32⟩
  | .hbm, ⟨52, _⟩ => ⟨S1024x1x1x1, .f32⟩
  | .hbm, ⟨53, _⟩ => ⟨S1024, .f32⟩
  | .hbm, ⟨54, _⟩ => ⟨S1x1x1x1024, .f32⟩
  | .hbm, ⟨55, _⟩ => ⟨S32x32x32x1024, .f32⟩
  | .hbm, ⟨56, _⟩ => ⟨S32x32x32x1024, .f32⟩
  | .hbm, ⟨57, _⟩ => ⟨S32x32x32x1024, .f32⟩
  | .hbm, ⟨58, _⟩ => ⟨S32x32x32x1024, .f32⟩
  | .hbm, ⟨59, _⟩ => ⟨S1024x1x1x1, .f32⟩
  | .hbm, ⟨60, _⟩ => ⟨S1024, .f32⟩
  | .hbm, ⟨61, _⟩ => ⟨S1x1x1x1024, .f32⟩
  | .hbm, ⟨62, _⟩ => ⟨S32x32x32x1024, .f32⟩
  | .hbm, ⟨63, _⟩ => ⟨S32x32x32x1024, .f32⟩
  | .hbm, ⟨64, _⟩ => ⟨S32x32x32x1024, .f32⟩
  | .hbm, ⟨65, _⟩ => ⟨S32x32x32x1024, .f32⟩
  | .hbm, ⟨66, _⟩ => ⟨S1024x1x1x1, .f32⟩
  | .hbm, ⟨67, _⟩ => ⟨S1024, .f32⟩
  | .hbm, ⟨68, _⟩ => ⟨S1x1x1x1024, .f32⟩
  | .hbm, ⟨69, _⟩ => ⟨S32x32x32x1024, .f32⟩
  | .hbm, ⟨70, _⟩ => ⟨S32x32x32x1024, .f32⟩
  | .hbm, ⟨71, _⟩ => ⟨S32x32x32x1024, .f32⟩
  | .hbm, ⟨72, _⟩ => ⟨S9x1024, .f32⟩
  | .hbm, ⟨73, _⟩ => ⟨S32x32x32x9, .f32⟩
  | .hbm, ⟨74, _⟩ => ⟨S1x1x1x9, .f32⟩
  | .hbm, ⟨75, _⟩ => ⟨S32x32x32x9, .f32⟩
  | .hbm, ⟨76, _⟩ => ⟨S32x32x32x9, .f32⟩
  | .hbm, ⟨77, _⟩ => ⟨S_, .f32⟩
  | .hbm, ⟨78, _⟩ => ⟨S32x32x32, .f32⟩
  | .hbm, ⟨79, _⟩ => ⟨S_, .f32⟩
  | .hbm, ⟨80, _⟩ => ⟨S32x32x32, .f32⟩
  | .hbm, ⟨81, _⟩ => ⟨S32x32x32, .f32⟩
  | .hbm, ⟨82, _⟩ => ⟨S32x32x32x1, .f32⟩
  | .hbm, ⟨83, _⟩ => ⟨S32x32x32x9, .f32⟩
  | .hbm, ⟨84, _⟩ => ⟨S32x32x32x9, .f32⟩
  | .hbm, ⟨85, _⟩ => ⟨S32x32x32x9, .f32⟩
  | .hbm, ⟨86, _⟩ => ⟨S_, .f32⟩
  | .hbm, ⟨87, _⟩ => ⟨S32x32x32, .f32⟩
  | .hbm, ⟨88, _⟩ => ⟨S32x32x32x1, .f32⟩
  | .hbm, ⟨89, _⟩ => ⟨S32x32x32x9, .f32⟩
  | .hbm, ⟨90, _⟩ => ⟨S32x32x32x9, .f32⟩
  | _, _ => ⟨S32x32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_cst_0 : Ref sig .tc := ⟨.hbm, 77, rfl⟩
abbrev main_v70 : Ref sig .tc := ⟨.hbm, 78, rfl⟩
abbrev main_cst_1 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_2 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩

abbrev nD : Nat := 1
abbrev τ : Topo := Topo.v7x

variable {F : FTy → Type} [FloatOps F]
-- ==== Proof.Arrays.lean ====
/-
  What the kernel is launched on, and what is made of its two output arrays afterwards.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Body

open Idealize.ShloMosaic Idealize.ShloMosaic.TcCoe Idealize.SL.Sem Cert.KernelIdeal Cert.KernelIdeal.Gen
open Idealize.ShloMosaic.Pipeline (Dat)

/-- The pixels the kernel is launched on: the two image axes as one. -/
def pixelsOf (X : FVec Ideal S32x32x32x1024 .f32) : FVec Ideal S32x1024x1024 .f32 :=
  shapeCast S32x1024x1024 X shapeCasts_S32x32x32x1024_S32x1024x1024

/-- The weights: for each channel, every tap of the depthwise kernel times every class of the pointwise one. -/
def weightsOf (D : FVec Ideal S1024x1x3x3 .f32) (P : FVec Ideal S9x1024x1x1 .f32) : FVec Ideal S1024x81 .f32 :=
  shapeCast S1024x81 (mulf
    (broadcastInDim S1024x9x9 ![0, 1, 2] bcast_S1024x9x1_S1024x9x9_0_1_2
      (broadcastInDim S1024x9x1 ![0, 1] bcast_S1024x9_S1024x9x1_0_1 (shapeCast S1024x9 D shapeCasts_S1024x1x3x3_S1024x9)))
    (broadcastInDim S1024x9x9 ![0, 1, 2] bcast_S1024x1x9_S1024x9x9_0_1_2
      (broadcastInDim S1024x1x9 ![0, 2] bcast_S1024x9_S1024x1x9_0_2
        (transpose S1024x9 [1, 0] (shapeCast S9x1024 P shapeCasts_S9x1024x1x1_S9x1024) transposes_S9x1024_S1024x9_1_0))))
    shapeCasts_S1024x9x9_S1024x81

/-- The bias as one row. -/
def biasOf (B : FVec Ideal S9 .f32) : FVec Ideal S1x9 .f32 := shapeCast S1x9 B shapeCasts_S9_S1x9

/-- The two output arrays put together, two images of each in turn. -/
def resultOf (A B : FVec Ideal S16x1024x9 .f32) : FVec Ideal S32x32x32x9 .f32 :=
  shapeCast S32x32x32x9 (concatenate S8x4x1024x9 1
    [⟨S8x2x1024x9, shapeCast S8x2x1024x9 A shapeCasts_S16x1024x9_S8x2x1024x9⟩,
     ⟨S8x2x1024x9, shapeCast S8x2x1024x9 B shapeCasts_S16x1024x9_S8x2x1024x9⟩]
    concatenates_S8x2x1024x9_S8x2x1024x9_S8x4x1024x9_d1) shapeCasts_S8x4x1024x9_S32x32x32x9

theorem pixelsOf_apply (X : FVec Ideal S32x32x32x1024 .f32) (n : Fin 32) (p d : Fin 1024) :
    pixelsOf X (ix3 n p d) = X (ix4 n ⟨p / 32, by omega⟩ ⟨p % 32, by omega⟩ d) := by
  pointwise [pixelsOf]

theorem weightsOf_apply (D : FVec Ideal S1024x1x3x3 .f32) (P : FVec Ideal S9x1024x1x1 .f32) (d : Fin 1024) (t k : Fin 9) :
    weightsOf D P (ix2 d ⟨9 * t + k, by omega⟩)
      = (D (ix4 d 0 ⟨t / 3, by omega⟩ ⟨t % 3, by omega⟩) : EReal) * P (ix4 k d 0 0) := by
  pointwise [weightsOf]

theorem biasOf_apply (B : FVec Ideal S9 .f32) (k : Fin 9) : biasOf B (ix2 0 k) = B (ix1 k) := by
  pointwise [biasOf]

/-- Image `n` of the result is image `2 (n / 4) + n % 4 % 2` of the first array where `n % 4` is below two, of the
    second where it is not. -/
theorem resultOf_apply (A B : FVec Ideal S16x1024x9 .f32) (n h w : Fin 32) (k : Fin 9) :
    resultOf A B (ix4 n h w k)
      = (if n.val % 4 < 2 then A else B) (ix3 ⟨2 * (n / 4) + n % 4 % 2, by omega⟩ ⟨32 * h + w, by omega⟩ k) := by
  pointwise [resultOf]
  by_cases q : n.val % 4 < 2
  · rw [dif_pos q, if_pos q]
    exact congrArg A (by congr 1 <;> exact Fin.ext (by simp only; omega))
  · rw [dif_neg q, if_neg q]
    exact congrArg B (by congr 1 <;> exact Fin.ext (by simp only; omega))

variable (m : (ℓ : Loc nD τ sig) → Buf (Elt Ideal) ℓ)

theorem entry_v0 (c : Dev nD) : V m c main_v0 = pixelsOf (m ((c.tc : Thread nD τ).loc main_arg0)) := by
  simp only [V, V0, hostOps0, List.flatten_cons, List.flatten_nil, List.cons_append, List.nil_append]
  after_results
  rfl

theorem entry_v9 (c : Dev nD) : V m c main_v9
    = weightsOf (m ((c.tc : Thread nD τ).loc main_arg1)) (m ((c.tc : Thread nD τ).loc main_arg2)) := by
  simp only [V, V0, hostOps0, List.flatten_cons, List.flatten_nil, List.cons_append, List.nil_append]
  after_results
  rfl

theorem entry_v10 (c : Dev nD) : V m c main_v10 = biasOf (m ((c.tc : Thread nD τ).loc main_arg3)) := by
  simp only [V, V0, hostOps0, List.flatten_cons, List.flatten_nil, List.cons_append, List.nil_append]
  after_results
  rfl

theorem exit_value (c : Dev nD) : Pipeline.afterTail₀ cfgs (dats m) 0 (V0 m) [hostOps1] c main_v15
    = resultOf ((dats m 0 c).arrAt 4 (cfgs 0).N) ((dats m 0 c).arrAt 5 (cfgs 0).N) := by
  have h4 := Pipeline.Dat.withArrays_arrAt (dats m 0 c) (by decide) (V0 m c) (A_eq m c) 4
  have h5 := Pipeline.Dat.withArrays_arrAt (dats m 0 c) (by decide) (V0 m c) (A_eq m c) 5
  unfold Pipeline.afterTail₀
  generalize Pipeline.withArrays (cfgs 0).spec c (V0 m c) (fun w => (dats m 0 c).arrAt w (cfgs 0).N) = U at h4 h5 ⊢
  generalize (dats m 0 c).arrAt 4 (cfgs 0).N = A at h4 h5 ⊢
  generalize (dats m 0 c).arrAt 5 (cfgs 0).N = B at h4 h5 ⊢
  simp only [hostOps1, List.flatten_cons, List.flatten_nil, List.cons_append, List.nil_append]
  after_results
  subst h4 h5
  rfl

end Cert.KernelIdeal.Body

end
-- ==== Proof.Body.lean ====
/-
  The kernel's body as a function. At one grid point the body reads two blocks of two images each and treats
  them alike; `payload` is what it stores for one of them. It is built here from small parts (a shift of the
  rows, a mask of lanes, one tap), and `out0_4_eq`, `out0_5_eq` say that the two output buffers after the body
  hold it.
-/
module

public import proofs.«01_k».proof.Proof.Gen.KernelIdeal.Frame
public import Idealize.ShloMosaic.Lib.Pipeline.ValueKit

@[expose] public section

set_option maxRecDepth 16384

noncomputable section

namespace Cert.KernelIdeal.Body

open Idealize.ShloMosaic Cert.KernelIdeal Cert.KernelIdeal.Gen

/-- One number per row (of 2048) and per lane (of 81). -/
abbrev Z := FVec Ideal S2048x81 .f32
/-- One word per row and lane. -/
abbrev W := IVec S2048x81 32
/-- One bit per row and lane. -/
abbrev M := IVec S2048x81 1

/-- Zero everywhere. -/
def zero : Z := broadcast S2048x81 (Scalar.ofBits .f32 0x00000000#32)

/-- Row `r` becomes row `r + 1`, zero past the end. -/
def next1 (z : Z) : Z :=
  concatenate S2048x81 0 [⟨S2047x81, extractStridedSlice S2047x81 ![1, 0] z slices_S2048x81_o1_0_S2047x81⟩,
    ⟨S1x81, broadcast S1x81 (Scalar.ofBits .f32 0x00000000#32)⟩] concatenates_S2047x81_S1x81_S2048x81_d0
/-- Row `r` becomes row `r - 1`, zero before the start. -/
def prev1 (z : Z) : Z :=
  concatenate S2048x81 0 [⟨S1x81, broadcast S1x81 (Scalar.ofBits .f32 0x00000000#32)⟩,
    ⟨S2047x81, extractStridedSlice S2047x81 ![0, 0] z slices_S2048x81_o0_0_S2047x81⟩] concatenates_S1x81_S2047x81_S2048x81_d0
/-- Row `r` becomes row `r + 32`, zero past the end. -/
def next32 (z : Z) : Z :=
  concatenate S2048x81 0 [⟨S2016x81, extractStridedSlice S2016x81 ![32, 0] z slices_S2048x81_o32_0_S2016x81⟩,
    ⟨S32x81, broadcast S32x81 (Scalar.ofBits .f32 0x00000000#32)⟩] concatenates_S2016x81_S32x81_S2048x81_d0
/-- Row `r` becomes row `r - 32`, zero before the start. -/
def prev32 (z : Z) : Z :=
  concatenate S2048x81 0 [⟨S32x81, broadcast S32x81 (Scalar.ofBits .f32 0x00000000#32)⟩,
    ⟨S2016x81, extractStridedSlice S2016x81 ![0, 0] z slices_S2048x81_o0_0_S2016x81⟩] concatenates_S32x81_S2016x81_S2048x81_d0

/-- The column of the row's pixel within its image row. -/
def col : W := k0_pay8
/-- The image row of the row's pixel. -/
def line : W := k0_pay11 k0_pay9 k0_pay10
/-- The lanes from `a` up to, not including, `b`. -/
def lanes (a b : BitVec 32) : M :=
  andi (cmpi .sge (iota .tc S2048x81 32 [1] iota_S2048x81_d1_w32) (broadcast S2048x81 a))
    (cmpi .slt (iota .tc S2048x81 32 [1] iota_S2048x81_d1_w32) (broadcast S2048x81 b))
/-- Where the word is at least one. -/
def notFirst (w : W) : M := cmpi .sgt w (broadcast S2048x81 0#32)
/-- Where the word is below 31. -/
def notLast (w : W) : M := cmpi .slt w (broadcast S2048x81 31#32)
/-- One tap added in: `z` where the mask is set, zero elsewhere. -/
def tap (k : M) (z acc : Z) : Z := addf acc (select k z zero)

/-- The nine taps. -/
def taps (z : Z) : Z :=
  tap (andi (andi (lanes 72#32 81#32) (notLast col)) (notLast line)) (next32 (next1 z)) <|
  tap (andi (lanes 63#32 72#32) (notLast line)) (next32 z) <|
  tap (andi (andi (lanes 54#32 63#32) (notFirst col)) (notLast line)) (next32 (prev1 z)) <|
  tap (andi (lanes 45#32 54#32) (notLast col)) (next1 z) <|
  tap (lanes 36#32 45#32) z <|
  tap (andi (lanes 27#32 36#32) (notFirst col)) (prev1 z) <|
  tap (andi (andi (lanes 18#32 27#32) (notLast col)) (notFirst line)) (prev32 (next1 z)) <|
  tap (andi (lanes 9#32 18#32) (notFirst line)) (prev32 z) <|
  tap (andi (andi (lanes 0#32 9#32) (notFirst col)) (notFirst line)) (prev32 (prev1 z)) zero

/-- The product of a block's pixels with the 81 columns of weights. -/
def prod (x : Vec Ideal S2x1024x1024 .f32) (w : Vec Ideal S1024x81 .f32) : Z := k0_pay4 w x

/-- The rest of the body: the lanes of one class summed, the bias added, the softmax. -/
def finish (b : Vec Ideal S1x9 .f32) (a : Z) : FVec Ideal S2x1024x9 .f32 :=
  k0_pay21 (k0_pay3 b) a (iota .tc S81x9 32 [0] iota_S81x9_d0_w32) 9#32 (Scalar.cmpi .eq 9#32 0#32) 1#32

/-- What the body stores for one block of two images. -/
def payload (x : Vec Ideal S2x1024x1024 .f32) (w : Vec Ideal S1024x81 .f32) (b : Vec Ideal S1x9 .f32) :
    FVec Ideal S2x1024x9 .f32 := finish b (taps (prod x w))

theorem out0_4_pieces (x0 x1 : Vec Ideal S2x1024x1024 .f32) (w : Vec Ideal S1024x81 .f32) (b : Vec Ideal S1x9 .f32) :
    out0_4 x0 x1 w b = View.canon [⟨r0_3, payload (View.ld x0 r0_2) (View.ld w r0_0) (View.ld b r0_1)⟩] := rfl

theorem out0_5_pieces (x0 x1 : Vec Ideal S2x1024x1024 .f32) (w : Vec Ideal S1024x81 .f32) (b : Vec Ideal S1x9 .f32) :
    out0_5 x0 x1 w b = View.canon [⟨r0_3, payload (View.ld x1 r0_2) (View.ld w r0_0) (View.ld b r0_1)⟩] := rfl

theorem out0_4_eq (x0 x1 : Vec Ideal S2x1024x1024 .f32) (w : Vec Ideal S1024x81 .f32) (b : Vec Ideal S1x9 .f32) :
    out0_4 x0 x1 w b = payload x0 w b := by
  rw [out0_4_pieces]; frame_out

theorem out0_5_eq (x0 x1 : Vec Ideal S2x1024x1024 .f32) (w : Vec Ideal S1024x81 .f32) (b : Vec Ideal S1x9 .f32) :
    out0_5 x0 x1 w b = payload x1 w b := by
  rw [out0_5_pieces]; frame_out

end Cert.KernelIdeal.Body

end
-- ==== Proof.Taps.lean ====
/-
  The body's nine taps read at a row and a lane. Lane `l` belongs to tap `l / 9` only, so the nine masked sums
  come to one read of the product, at the row shifted by that tap, or to zero where the shifted pixel is outside
  its image.
-/
module

public import proofs.«01_k».proof.Proof.Body
public import Idealize.ShloMosaic.Lib.Pointwise

@[expose] public section

set_option maxRecDepth 16384

noncomputable section

namespace Cert.KernelIdeal.Body

open Idealize.ShloMosaic Cert.KernelIdeal Cert.KernelIdeal.Gen

/-- A row and lane's number, the row given as a natural number: zero outside the array. -/
def at0 (z : Z) (n : ℕ) (l : Fin 81) : EReal := if h : n < 2048 then z (ix2 ⟨n, h⟩ l) else 0

theorem at0_of_lt (z : Z) (n : ℕ) (l : Fin 81) (h : n < 2048) : at0 z n l = z (ix2 ⟨n, h⟩ l) := dif_pos h

theorem next1_apply (z : Z) (r : Fin 2048) (l : Fin 81) : next1 z (ix2 r l) = at0 z (r + 1) l := by
  pointwise [next1]
  unfold at0
  by_cases h : r.val < 2047
  · rw [dif_pos h, dif_pos (by omega)]; simp only [Nat.add_comm]
  · rw [dif_neg h, dif_neg (by omega)]

theorem next32_apply (z : Z) (r : Fin 2048) (l : Fin 81) : next32 z (ix2 r l) = at0 z (r + 32) l := by
  pointwise [next32]
  unfold at0
  by_cases h : r.val < 2016
  · rw [dif_pos h, dif_pos (by omega)]; simp only [Nat.add_comm]
  · rw [dif_neg h, dif_neg (by omega)]

theorem prev1_apply (z : Z) (r : Fin 2048) (l : Fin 81) :
    prev1 z (ix2 r l) = if 1 ≤ r.val then at0 z (r - 1) l else 0 := by
  pointwise [prev1]
  by_cases h : r.val < 1
  · rw [dif_pos h]
    exact (if_neg (show ¬ 1 ≤ r.val by omega)).symm
  · rw [dif_neg h]
    exact (at0_of_lt z (r - 1) l (by omega)).symm.trans (if_pos (show 1 ≤ r.val by omega)).symm

theorem prev32_apply (z : Z) (r : Fin 2048) (l : Fin 81) :
    prev32 z (ix2 r l) = if 32 ≤ r.val then at0 z (r - 32) l else 0 := by
  pointwise [prev32]
  by_cases h : r.val < 32
  · rw [dif_pos h]
    exact (if_neg (show ¬ 32 ≤ r.val by omega)).symm
  · rw [dif_neg h]
    exact (at0_of_lt z (r - 32) l (by omega)).symm.trans (if_pos (show 32 ≤ r.val by omega)).symm

theorem col_apply (r : Fin 2048) (l : Fin 81) : col (ix2 r l) = BitVec.ofNat 32 (r.val % 32) := by
  pointwise [col, k0_pay8]
  revert r; decide +kernel

theorem line_apply (r : Fin 2048) (l : Fin 81) : line (ix2 r l) = BitVec.ofNat 32 (r.val / 32 % 32) := by
  pointwise [line, k0_pay9, k0_pay10, k0_pay11]
  revert r; decide +kernel

theorem lanes_apply (a b : ℕ) (ha : a < 82) (hb : b < 82) (r : Fin 2048) (l : Fin 81) :
    lanes (BitVec.ofNat 32 a) (BitVec.ofNat 32 b) (ix2 r l) = 1#1 ↔ a ≤ l.val ∧ l.val < b := by
  pointwise [lanes]
  have e : ∀ x y : BitVec 1, IntOp.andi x y = 1#1 ↔ x = 1#1 ∧ y = 1#1 := by decide +kernel
  have ge : ∀ (l : Fin 81) (a : Fin 82),
      IntOp.cmpi CmpIPredicate.sge (BitVec.ofNat 32 l) (BitVec.ofNat 32 a) = 1#1 ↔ a.val ≤ l.val := by decide +kernel
  have lt : ∀ (l : Fin 81) (b : Fin 82),
      IntOp.cmpi CmpIPredicate.slt (BitVec.ofNat 32 l) (BitVec.ofNat 32 b) = 1#1 ↔ l.val < b.val := by decide +kernel
  rw [e]
  exact and_congr (ge l ⟨a, ha⟩) (lt l ⟨b, hb⟩)

theorem andi_apply (p q : M) (i : S2048x81.Idx) : andi p q i = 1#1 ↔ p i = 1#1 ∧ q i = 1#1 := by
  pointwise
  generalize p i = x; generalize q i = y
  revert x y; decide +kernel

theorem notFirst_apply (w : W) (n : ℕ) (hn : n < 32) (i : S2048x81.Idx) (h : w i = BitVec.ofNat 32 n) :
    notFirst w i = 1#1 ↔ 1 ≤ n := by
  pointwise [notFirst]
  rw [h]
  have e : ∀ n : Fin 32, IntOp.cmpi CmpIPredicate.sgt (BitVec.ofNat 32 n) 0#32 = 1#1 ↔ 1 ≤ n.val := by decide +kernel
  exact e ⟨n, hn⟩

theorem notLast_apply (w : W) (n : ℕ) (hn : n < 32) (i : S2048x81.Idx) (h : w i = BitVec.ofNat 32 n) :
    notLast w i = 1#1 ↔ n < 31 := by
  pointwise [notLast]
  rw [h]
  have e : ∀ n : Fin 32, IntOp.cmpi CmpIPredicate.slt (BitVec.ofNat 32 n) 31#32 = 1#1 ↔ n.val < 31 := by decide +kernel
  exact e ⟨n, hn⟩

theorem tap_apply (k : M) (z acc : Z) (i : S2048x81.Idx) : tap k z acc i = acc i + if k i = 1#1 then z i else 0 := by
  pointwise [tap, zero]
  rfl

theorem zero_apply (i : S2048x81.Idx) : zero i = 0 := by
  pointwise [zero]

/-- The row's pixel, moved by tap `t`, is inside its image. -/
def Inside (r t : ℕ) : Prop :=
  1 ≤ r / 32 % 32 + t / 3 ∧ r / 32 % 32 + t / 3 ≤ 32 ∧ 1 ≤ r % 32 + t % 3 ∧ r % 32 + t % 3 ≤ 32

instance (r t : ℕ) : Decidable (Inside r t) := by unfold Inside; infer_instance

theorem taps_apply (z : Z) (r : Fin 2048) (l : Fin 81) :
    taps z (ix2 r l) = if Inside r (l / 9) then at0 z (r + 32 * (l / 9 / 3) + l / 9 % 3 - 33) l else 0 := by
  have hr := r.isLt
  have hl := l.isLt
  have hc := col_apply r l
  have hn := line_apply r l
  have m1 : r.val % 32 < 32 := Nat.mod_lt _ (by decide)
  have m2 : r.val / 32 % 32 < 32 := Nat.mod_lt _ (by decide)
  unfold taps
  simp only [tap_apply, zero_apply, andi_apply, notFirst_apply _ _ m1 _ hc, notFirst_apply _ _ m2 _ hn,
    notLast_apply _ _ m1 _ hc, notLast_apply _ _ m2 _ hn, lanes_apply 0 9 (by decide) (by decide),
    lanes_apply 9 18 (by decide) (by decide), lanes_apply 18 27 (by decide) (by decide),
    lanes_apply 27 36 (by decide) (by decide), lanes_apply 36 45 (by decide) (by decide),
    lanes_apply 45 54 (by decide) (by decide), lanes_apply 54 63 (by decide) (by decide),
    lanes_apply 63 72 (by decide) (by decide), lanes_apply 72 81 (by decide) (by decide)]
  have n1 : ∀ n : ℕ, n < 2048 → at0 (next1 z) n l = at0 z (n + 1) l := fun n h => by
    rw [at0_of_lt _ _ _ h, next1_apply]
  have p1 : ∀ n : ℕ, n < 2048 → 1 ≤ n → at0 (prev1 z) n l = at0 z (n - 1) l := fun n h h' => by
    rw [at0_of_lt _ _ _ h, prev1_apply, if_pos h']
  rw [next32_apply, next32_apply, next32_apply, prev32_apply, prev32_apply, prev32_apply, next1_apply, prev1_apply]
  have e0 : z (ix2 r l) = at0 z r l := (at0_of_lt z r l hr).symm
  rw [e0]
  have ht : l.val / 9 < 9 := by omega
  obtain ⟨t, et⟩ : ∃ t, l.val / 9 = t := ⟨_, rfl⟩
  rw [et] at ht ⊢
  have l1 : 9 * t ≤ l.val := by omega
  have l2 : l.val < 9 * t + 9 := by omega
  clear et hc hn m1 m2
  by_cases h : Inside r t
  · rw [if_pos h]
    unfold Inside at h
    interval_cases t <;>
      simp (disch := omega) only [if_pos, if_neg, zero_add, add_zero, n1, p1] <;>
      exact congrArg (fun n => at0 z n l) (by omega)
  · rw [if_neg h]
    unfold Inside at h
    interval_cases t <;> simp (disch := omega) only [if_neg, zero_add, add_zero]

end Cert.KernelIdeal.Body

end
-- ==== Proof.Softmax.lean ====
/-
  The softmax of nine numbers, as both programs compute it.
-/
module

public import Idealize.ShloMosaic.Lib.Pointwise

@[expose] public section

noncomputable section

namespace Cert

open Idealize.ShloMosaic

/-- The largest of nine numbers, taken from minus infinity. -/
def top (L : Fin 9 → EReal) : EReal := Finset.univ.fold max (Ideal.ofBits FTy.f32 0xFF800000#32) L

/-- The softmax of nine numbers. -/
def softmax (L : Fin 9 → EReal) (k : Fin 9) : EReal :=
  Ideal.div (Ideal.exp (L k - top L)) (∑ j, Ideal.exp (L j - top L))

/-- Taking the start again changes nothing. -/
theorem max_top (L : Fin 9 → EReal) : max (Ideal.ofBits FTy.f32 0xFF800000#32) (top L) = top L :=
  max_eq_right ((Finset.le_fold_max _).mpr (Or.inl le_rfl))

end Cert

end
-- ==== Proof.Finish.lean ====
/-
  The rest of the body read at an index: the product of a block's pixels with the weights, the sum of the lanes
  of one class, and the softmax of nine numbers.
-/
module

public import proofs.«01_k».proof.Proof.Body
public import proofs.«01_k».proof.Proof.Softmax

@[expose] public section

set_option maxRecDepth 16384

noncomputable section

namespace Cert.KernelIdeal.Body

open Idealize.ShloMosaic Cert.KernelIdeal Cert.KernelIdeal.Gen

theorem prod_apply (x : Vec Ideal S2x1024x1024 .f32) (w : Vec Ideal S1024x81 .f32) (r : Fin 2048) (l : Fin 81) :
    prod x w (ix2 r l) = ∑ d : Fin 1024, x (ix3 ⟨r / 1024, by omega⟩ ⟨r % 1024, by omega⟩ d) * w (ix2 d l) := by
  pointwise [prod, k0_pay4, k0_pay2]

/-- The word that says whether lane `l` is of class `k`: one or zero. -/
def classWord (l : Fin 81) (k : Fin 9) : BitVec 32 :=
  BitVec.setWidth 32
    (IntOp.cmpi CmpIPredicate.eq
      (Scalar.select
        (IntOp.andi
          (IntOp.xori
            (IntOp.cmpi CmpIPredicate.slt
              (IntOp.remsi ArithUnit.vector (BitVec.ofNat 32 l)
                (Scalar.select (Scalar.cmpi CmpIPredicate.eq 9#32 0#32) 1#32 9#32))
              0#32)
            (Scalar.cmpi CmpIPredicate.slt
              (Scalar.select (Scalar.cmpi CmpIPredicate.eq 9#32 0#32) 1#32 9#32) 0#32))
          (IntOp.cmpi CmpIPredicate.ne
            (IntOp.remsi ArithUnit.vector (BitVec.ofNat 32 l)
              (Scalar.select (Scalar.cmpi CmpIPredicate.eq 9#32 0#32) 1#32 9#32))
            0#32))
        (IntOp.addi
          (IntOp.remsi ArithUnit.vector (BitVec.ofNat 32 l)
            (Scalar.select (Scalar.cmpi CmpIPredicate.eq 9#32 0#32) 1#32 9#32))
          (Scalar.select (Scalar.cmpi CmpIPredicate.eq 9#32 0#32) 1#32 9#32))
        (IntOp.remsi ArithUnit.vector (BitVec.ofNat 32 l)
          (Scalar.select (Scalar.cmpi CmpIPredicate.eq 9#32 0#32) 1#32 9#32)))
      (BitVec.ofNat 32 k))

theorem classWord_eq : ∀ (l : Fin 81) (k : Fin 9), classWord l k = if l.val % 9 = k.val then 1#32 else 0#32 := by
  decide +kernel

theorem sitofp_classWord (l : Fin 81) (k : Fin 9) :
    FloatOps.sitofp (F := Ideal) FTy.f32 (classWord l k) = if l.val % 9 = k.val then (1 : EReal) else 0 := by
  rw [classWord_eq]
  split
  · show ((((1#32 : BitVec 32).toInt : ℝ)) : EReal) = 1
    norm_num
  · show ((((0#32 : BitVec 32).toInt : ℝ)) : EReal) = 0
    norm_num

/-- A sum over the 81 lanes in which only the lanes of class `k` count is a sum over the nine taps. -/
theorem sum_class (f : Fin 81 → EReal) (k : Fin 9) :
    ∑ l : Fin 81, f l * (if l.val % 9 = k.val then (1 : EReal) else 0) = ∑ t : Fin 9, f ⟨9 * t + k, by omega⟩ := by
  symm
  simp only [mul_ite, mul_one, mul_zero]
  rw [← Finset.sum_filter]
  refine Finset.sum_bij (fun t _ => ⟨9 * t.val + k.val, by omega⟩) ?_ ?_ ?_ ?_
  · intro t _; simp only [Finset.mem_filter, Finset.mem_univ, true_and]; omega
  · intro t _ u _ h; simp only [Fin.mk.injEq] at h; omega
  · intro l hl; simp only [Finset.mem_filter, Finset.mem_univ, true_and] at hl
    exact ⟨⟨l.val / 9, by omega⟩, Finset.mem_univ _, Fin.ext (by simp only; omega)⟩
  · intro t _; rfl

/-- The body's result at an image of the block, a pixel and a class: the softmax of the nine classes' sums over
    the taps, each with its bias. -/
theorem finish_apply (b : Vec Ideal S1x9 .f32) (a : Z) (g : Fin 2) (p : Fin 1024) (k : Fin 9) :
    finish b a (ix3 g p k) = softmax (fun k => (∑ t : Fin 9, a (ix2 ⟨1024 * g + p, by omega⟩ ⟨9 * t + k, by omega⟩))
      + b (ix2 0 k)) k := by
  pointwise [finish, k0_pay21, k0_pay3]
  have e : ∀ j : Fin 9, ∑ x : Fin 81, a (ix2 ⟨g.val * 1024 + p.val, by omega⟩ x) * FloatOps.sitofp (F := Ideal) FTy.f32 (classWord x j)
      = ∑ t : Fin 9, a (ix2 ⟨1024 * g + p, by omega⟩ ⟨9 * t + j, by omega⟩) := by
    intro j
    simp only [sitofp_classWord]
    rw [sum_class]
    simp only [Nat.mul_comm]
  simp only [classWord] at e
  simp only [e]
  rfl

end Cert.KernelIdeal.Body

end
-- ==== Proof.Payload.lean ====
/-
  What the body stores for one block of two images, at an index: the softmax of the nine classes' sums, each over
  the taps whose pixel lies inside the image and over the channels.
-/
module

public import proofs.«01_k».proof.Proof.Taps
public import proofs.«01_k».proof.Proof.Finish

@[expose] public section

set_option maxRecDepth 16384

noncomputable section

namespace Cert.KernelIdeal.Body

open Idealize.ShloMosaic Cert.KernelIdeal Cert.KernelIdeal.Gen

/-- The pixel that tap `t` of pixel `p` reads, where it is inside the image. -/
def shift (p t : ℕ) : Fin 1024 := ⟨(p + 32 * (t / 3) + t % 3 - 33) % 1024, Nat.mod_lt _ (by decide)⟩

theorem payload_apply (x : Vec Ideal S2x1024x1024 .f32) (w : Vec Ideal S1024x81 .f32) (b : Vec Ideal S1x9 .f32)
    (g : Fin 2) (p : Fin 1024) (k : Fin 9) :
    payload x w b (ix3 g p k) = softmax (fun k => (∑ t : Fin 9, if Inside p t then
      ∑ d : Fin 1024, x (ix3 g (shift p t) d) * w (ix2 d ⟨9 * t + k, by omega⟩) else 0) + b (ix2 0 k)) k := by
  unfold payload
  rw [finish_apply]
  refine congrArg (fun L => softmax L k) (funext fun j => congrArg (· + b (ix2 0 j)) (Finset.sum_congr rfl fun t _ => ?_))
  have ht : (9 * t.val + j.val) / 9 = t.val := by omega
  have hg := g.isLt
  have hp := p.isLt
  have htt := t.isLt
  rw [taps_apply]
  simp only [ht]
  have q1 : (1024 * g.val + p.val) / 32 % 32 = p.val / 32 := by omega
  have q2 : (1024 * g.val + p.val) % 32 = p.val % 32 := by omega
  have q3 : p.val / 32 % 32 = p.val / 32 := by omega
  have hi : Inside (1024 * g.val + p.val) t ↔ Inside p t := by unfold Inside; rw [q1, q2, q3]
  by_cases h : Inside p t
  · rw [if_pos (hi.mpr h), if_pos h]
    unfold Inside at h
    rw [q3] at h
    have q4 : p.val = 32 * (p.val / 32) + p.val % 32 := by omega
    generalize p.val / 32 = a at h q4
    generalize p.val % 32 = c at h q4
    have hs : p.val + 32 * (t.val / 3) + t.val % 3 - 33 < 1024 := by omega
    rw [at0_of_lt _ _ _ (by omega), prod_apply]
    refine Finset.sum_congr rfl fun d _ => congrArg (· * _) (congrArg x ?_)
    have e1 : (1024 * g.val + p.val + 32 * (t.val / 3) + t.val % 3 - 33) / 1024 = g.val := by omega
    have e2 : (1024 * g.val + p.val + 32 * (t.val / 3) + t.val % 3 - 33) % 1024
      = (p.val + 32 * (t.val / 3) + t.val % 3 - 33) % 1024 := by omega
    simp only [e1, e2]
    rfl
  · rw [if_neg (fun h' => h (hi.mp h')), if_neg h]

end Cert.KernelIdeal.Body

end
-- ==== Proof.Blocks.lean ====
/-
  The two output arrays after the run. Grid point `t` writes block `t` (two images) of each array, from image
  pair `2 t` of the pixels for the first array and image pair `2 t + 1` for the second.
-/
module

public import proofs.«01_k».proof.Proof.Payload

@[expose] public section

set_option maxRecDepth 16384

noncomputable section

namespace Cert.KernelIdeal.Body

open Idealize.ShloMosaic Idealize.ShloMosaic.TcCoe Idealize.SL.Sem Cert.KernelIdeal Cert.KernelIdeal.Gen
open Idealize.ShloMosaic.Pipeline (Dat)

/-- The value at image `n` of 32, pixel `p` and class `k`, over the pixels, the weights and the bias as the
    kernel is launched on them. -/
def value (x : FVec Ideal S32x1024x1024 .f32) (w : FVec Ideal S1024x81 .f32) (b : FVec Ideal S1x9 .f32)
    (n : Fin 32) (p : Fin 1024) (k : Fin 9) : EReal :=
  softmax (fun k => (∑ t : Fin 9, if Inside p t then
      ∑ d : Fin 1024, x (ix3 n (shift p t) d) * w (ix2 d ⟨9 * t + k, by omega⟩) else 0) + b (ix2 0 k)) k

/-- One output array: its image `2 t + g` is image `4 t + 2 s + g`; `s` is 0 for the first array, 1 for the second. -/
def half (s : Fin 2) (x : FVec Ideal S32x1024x1024 .f32) (w : FVec Ideal S1024x81 .f32) (b : FVec Ideal S1x9 .f32) :
    FVec Ideal S16x1024x9 .f32 := fun i =>
  value x w b ⟨4 * ((i 0).val / 2) + 2 * s.val + (i 0).val % 2, by have h : (i 0).val < 16 := (i 0).isLt; omega⟩ (i 1) (i 2)

variable (m : (ℓ : Loc nD τ sig) → Buf (Elt Ideal) ℓ)

theorem idx : ∀ t : Fin cfg0.N, win0_0.index t = ![2 * t.val, 0, 0] ∧ win0_1.index t = ![2 * t.val + 1, 0, 0]
    ∧ win0_2.index t = ![0, 0] ∧ win0_3.index t = ![0, 0] ∧ win0_4.index t = ![t.val, 0, 0]
    ∧ win0_5.index t = ![t.val, 0, 0] := (by decide +kernel : ∀ t : Fin grid0.N, _)

/-- `half` at the place block `t` of the array gives to image `g` of the block. -/
theorem half_apply (s : Fin 2) (x : FVec Ideal S32x1024x1024 .f32) (w : FVec Ideal S1024x81 .f32) (b : FVec Ideal S1x9 .f32)
    (t : ℕ) (ht : t < 8) (g : Fin 2) (p : Fin 1024) (k : Fin 9) :
    half s x w b (ix3 ⟨2 * t + g, by omega⟩ p k) = value x w b ⟨4 * t + 2 * s + g, by omega⟩ p k := by
  have e : 4 * ((2 * t + g.val) / 2) + 2 * s.val + (2 * t + g.val) % 2 = 4 * t + 2 * s + g := by omega
  exact congrArg (fun n => value x w b n p k) (Fin.ext e)

theorem lt8 : ∀ t : Fin cfg0.N, t.val < 8 := (by decide +kernel : ∀ t : Fin grid0.N, _)

theorem weights (c : Dev nD) (t : Fin cfg0.N) : iblk m c 2 t = V m c main_v9 := by
  funext y
  blk_ext [iblk, idx t]

theorem bias (c : Dev nD) (t : Fin cfg0.N) : iblk m c 3 t = V m c main_v10 := by
  funext y
  blk_ext [iblk, idx t]

theorem pixels0 (c : Dev nD) (t : Fin cfg0.N) (g : Fin 2) (p d : Fin 1024) :
    iblk m c 0 t (ix3 g p d) = V m c main_v0 (ix3 ⟨4 * t + 2 * (0 : Fin 2).val + g, by have := lt8 t; omega⟩ p d) := by
  blk_ext [iblk, idx t]

theorem pixels1 (c : Dev nD) (t : Fin cfg0.N) (g : Fin 2) (p d : Fin 1024) :
    iblk m c 1 t (ix3 g p d) = V m c main_v0 (ix3 ⟨4 * t + 2 * (1 : Fin 2).val + g, by have := lt8 t; omega⟩ p d) := by
  blk_ext [iblk, idx t]

/-- The first array after the run. -/
theorem first (c : Dev nD) : (dats m 0 c).arrAt 4 (cfgs 0).N
    = half 0 (V m c main_v0) (V m c main_v9) (V m c main_v10) := by
  refine (dats m 0 c).arrAt_eq_of_covers 4 _ (by decide +kernel) fun t _ y => ?_
  blk_simp
  rw [after0_4]
  obtain ⟨g, p, k, rfl⟩ : ∃ g p k, y = ix3 g p k := ⟨y 0, y 1, y 2, by funext a; fin_cases a <;> rfl⟩
  have e : (win0_4.blk t).view.emb (ix3 g p k) = ix3 ⟨2 * t + g, by have := lt8 t; omega⟩ p k := by
    blk_ext [idx t]
  rw [out0_4_eq, payload_apply, weights, bias, e]
  refine Eq.trans ?_ (half_apply 0 _ _ _ t (lt8 t) g p k).symm
  unfold value
  simp only [pixels0]

/-- The second array after the run. -/
theorem second (c : Dev nD) : (dats m 0 c).arrAt 5 (cfgs 0).N
    = half 1 (V m c main_v0) (V m c main_v9) (V m c main_v10) := by
  refine (dats m 0 c).arrAt_eq_of_covers 5 _ (by decide +kernel) fun t _ y => ?_
  blk_simp
  rw [after0_5]
  obtain ⟨g, p, k, rfl⟩ : ∃ g p k, y = ix3 g p k := ⟨y 0, y 1, y 2, by funext a; fin_cases a <;> rfl⟩
  have e : (win0_5.blk t).view.emb (ix3 g p k) = ix3 ⟨2 * t + g, by have := lt8 t; omega⟩ p k := by
    blk_ext [idx t]
  rw [out0_5_eq, payload_apply, weights, bias, e]
  refine Eq.trans ?_ (half_apply 1 _ _ _ t (lt8 t) g p k).symm
  unfold value
  simp only [pixels1]

end Cert.KernelIdeal.Body

end
-- ==== Proof.Reference.lean ====
/-
  The reference's result read at an index. The reference pads the pixels with one zero on each side, adds up nine
  shifted products with the depthwise kernel, contracts the channels with the pointwise one, adds the bias and
  takes the softmax.
-/
module

public import proofs.«01_k».proof.Proof.Gen.ReferenceIdeal.Run
public import proofs.«01_k».proof.Proof.Softmax

@[expose] public section

set_option maxRecDepth 16384

noncomputable section

namespace Cert.ReferenceIdeal.Body

open Idealize.ShloMosaic Idealize.ShloMosaic.TcCoe Idealize.SL.Sem Cert.ReferenceIdeal Cert.ReferenceIdeal.Gen

/-- The pixels with a border of zeros. -/
def padded (X : FVec Ideal S32x32x32x1024 .f32) : FVec Ideal S32x34x34x1024 .f32 :=
  pad S32x34x34x1024 ![0, 1, 1, 0] ![0, 1, 1, 0] ![0, 0, 0, 0] X (sitofp .f32 (constantI S_ 32 0#32))
    pads_S32x32x32x1024_S32x34x34x1024_000_110_110_000 h_S_

/-- One tap: the padded pixels shifted, times the depthwise kernel's entry for each channel. -/
def tap (X : FVec Ideal S32x32x32x1024 .f32) (D : FVec Ideal S1024x1x3x3 .f32) (i j : ℕ)
    (h : S32x34x34x1024.Slices ![0, i, j, 0] S32x32x32x1024) (h' : S1024x1x3x3.Slices ![0, 0, i, j] S1024x1x1x1) :
    FVec Ideal S32x32x32x1024 .f32 :=
  mulf (extractStridedSlice S32x32x32x1024 ![0, i, j, 0] (padded X) h)
    (broadcastInDim S32x32x32x1024 ![0, 1, 2, 3] bcast_S1x1x1x1024_S32x32x32x1024_0_1_2_3
      (broadcastInDim S1x1x1x1024 ![3] bcast_S1024_S1x1x1x1024_3
        (shapeCast S1024 (extractStridedSlice S1024x1x1x1 ![0, 0, i, j] D h') shapeCasts_S1024x1x1x1_S1024)))

/-- The depthwise convolution. -/
def depthwise (X : FVec Ideal S32x32x32x1024 .f32) (D : FVec Ideal S1024x1x3x3 .f32) : FVec Ideal S32x32x32x1024 .f32 :=
  addf (addf (addf (addf (addf (addf (addf (addf (addf (broadcastInDim S32x32x32x1024 ![] bcast_S_S32x32x32x1024 (constant S_ .f32 0x00000000#32))
    (tap X D 0 0 slices_S32x34x34x1024_S32x32x32x1024_0_0_0_0 slices_S1024x1x3x3_S1024x1x1x1_0_0_0_0))
    (tap X D 0 1 slices_S32x34x34x1024_S32x32x32x1024_0_0_1_0 slices_S1024x1x3x3_S1024x1x1x1_0_0_0_1))
    (tap X D 0 2 slices_S32x34x34x1024_S32x32x32x1024_0_0_2_0 slices_S1024x1x3x3_S1024x1x1x1_0_0_0_2))
    (tap X D 1 0 slices_S32x34x34x1024_S32x32x32x1024_0_1_0_0 slices_S1024x1x3x3_S1024x1x1x1_0_0_1_0))
    (tap X D 1 1 slices_S32x34x34x1024_S32x32x32x1024_0_1_1_0 slices_S1024x1x3x3_S1024x1x1x1_0_0_1_1))
    (tap X D 1 2 slices_S32x34x34x1024_S32x32x32x1024_0_1_2_0 slices_S1024x1x3x3_S1024x1x1x1_0_0_1_2))
    (tap X D 2 0 slices_S32x34x34x1024_S32x32x32x1024_0_2_0_0 slices_S1024x1x3x3_S1024x1x1x1_0_0_2_0))
    (tap X D 2 1 slices_S32x34x34x1024_S32x32x32x1024_0_2_1_0 slices_S1024x1x3x3_S1024x1x1x1_0_0_2_1))
    (tap X D 2 2 slices_S32x34x34x1024_S32x32x32x1024_0_2_2_0 slices_S1024x1x3x3_S1024x1x1x1_0_0_2_2)

/-- The pointwise convolution with its bias. -/
def pointwiseConv (Y : FVec Ideal S32x32x32x1024 .f32) (P : FVec Ideal S9x1024x1x1 .f32) (B : FVec Ideal S9 .f32) :
    FVec Ideal S32x32x32x9 .f32 :=
  addf (Host.dotGeneral dot_S32x32x32x1024_S9x1024_S32x32x32x9_3_1_012_0_n_n none Y (shapeCast S9x1024 P shapeCasts_S9x1024x1x1_S9x1024))
    (broadcastInDim S32x32x32x9 ![0, 1, 2, 3] bcast_S1x1x1x9_S32x32x32x9_0_1_2_3 (broadcastInDim S1x1x1x9 ![3] bcast_S9_S1x1x1x9_3 B))

/-- The softmax over the nine classes, in two steps: the exponentials, then the division by their sum. -/
def exps (L : FVec Ideal S32x32x32x9 .f32) : FVec Ideal S32x32x32x9 .f32 :=
  Host.exp (subf L (broadcastInDim S32x32x32x9 ![0, 1, 2, 3] bcast_S32x32x32x1_S32x32x32x9_0_1_2_3
    (broadcastInDim S32x32x32x1 ![0, 1, 2] bcast_S32x32x32_S32x32x32x1_0_1_2
      (maximumf (broadcastInDim S32x32x32 ![] bcast_S_S32x32x32 (constant S_ .f32 0xFF800000#32))
        (Host.reduce FloatOps.maximumf L (constant S_ .f32 0xFF800000#32) reducesTo_S32x32x32x9_S32x32x32_d3 h_S_)))))

def softmaxes (L : FVec Ideal S32x32x32x9 .f32) : FVec Ideal S32x32x32x9 .f32 :=
  Host.divf (exps L) (broadcastInDim S32x32x32x9 ![0, 1, 2, 3] bcast_S32x32x32x1_S32x32x32x9_0_1_2_3
    (broadcastInDim S32x32x32x1 ![0, 1, 2] bcast_S32x32x32_S32x32x32x1_0_1_2
      (Host.reduceAdd (exps L) (constant S_ .f32 0x00000000#32) reducesTo_S32x32x32x9_S32x32x32_d3 h_S_)))

/-- The reference's result. -/
def result (X : FVec Ideal S32x32x32x1024 .f32) (D : FVec Ideal S1024x1x3x3 .f32) (P : FVec Ideal S9x1024x1x1 .f32)
    (B : FVec Ideal S9 .f32) : FVec Ideal S32x32x32x9 .f32 := softmaxes (pointwiseConv (depthwise X D) P B)

theorem result_eq (m : (ℓ : Loc nD τ sig) → Buf (Elt Ideal) ℓ) (c : Dev nD) :
    Value.res_main_v80 m c = result (m ((c.tc : Thread nD τ).loc main_arg0)) (m ((c.tc : Thread nD τ).loc main_arg1))
      (m ((c.tc : Thread nD τ).loc main_arg2)) (m ((c.tc : Thread nD τ).loc main_arg3)) := rfl

/-- What tap `t` of pixel `(h, w)` reads: the pixel moved by the tap, zero outside the image. -/
def moved (X : FVec Ideal S32x32x32x1024 .f32) (n : Fin 32) (h w : Fin 32) (i j : ℕ) (d : Fin 1024) : EReal :=
  if q : (1 ≤ h.val + i ∧ h.val + i ≤ 32) ∧ (1 ≤ w.val + j ∧ w.val + j ≤ 32) then
    X (ix4 n ⟨h + i - 1, by omega⟩ ⟨w + j - 1, by omega⟩ d) else 0

theorem padded_apply (X : FVec Ideal S32x32x32x1024 .f32) (n : Fin 32) (h w : Fin 34) (d : Fin 1024) :
    padded X (ix4 n h w d) = if q : (1 ≤ h.val ∧ h.val ≤ 32) ∧ (1 ≤ w.val ∧ w.val ≤ 32) then
      X (ix4 n ⟨h - 1, by omega⟩ ⟨w - 1, by omega⟩ d) else 0 := by
  pointwise [padded]
  have z : (FloatOps.sitofp (F := Ideal) FTy.f32 0#32 : EReal) = 0 := by
    change (((0#32 : BitVec 32).toInt : ℝ) : EReal) = 0
    simp
  by_cases q : (1 ≤ h.val ∧ h.val ≤ 32) ∧ (1 ≤ w.val ∧ w.val ≤ 32)
  · rw [dif_pos q]
    exact dif_pos (by omega)
  · rw [dif_neg q]
    exact (dif_neg (by omega)).trans z

theorem tap_apply (X : FVec Ideal S32x32x32x1024 .f32) (D : FVec Ideal S1024x1x3x3 .f32) (i j : Fin 3)
    (hs : S32x34x34x1024.Slices ![0, i.val, j.val, 0] S32x32x32x1024) (hs' : S1024x1x3x3.Slices ![0, 0, i.val, j.val] S1024x1x1x1)
    (n h w : Fin 32) (d : Fin 1024) :
    tap X D i j hs hs' (ix4 n h w d) = moved X n h w i j d * D (ix4 d 0 i j) := by
  pointwise [tap]
  congr 1
  refine (padded_apply X n _ _ d).trans ?_
  unfold moved
  simp only [Nat.add_comm i.val, Nat.add_comm j.val]

theorem sum_nine (f : Fin 9 → EReal) : ∑ t, f t = f 0 + f 1 + f 2 + f 3 + f 4 + f 5 + f 6 + f 7 + f 8 := by
  simp only [Fin.sum_univ_succ, Fin.sum_univ_zero, add_zero, add_assoc]
  rfl

theorem depthwise_apply (X : FVec Ideal S32x32x32x1024 .f32) (D : FVec Ideal S1024x1x3x3 .f32) (n h w : Fin 32) (d : Fin 1024) :
    depthwise X D (ix4 n h w d) = ∑ t : Fin 9, moved X n h w (t / 3) (t % 3) d * D (ix4 d 0 ⟨t / 3, by omega⟩ ⟨t % 3, by omega⟩) := by
  pointwise [depthwise]
  refine .trans ?_ (sum_nine _).symm
  exact congrArg₂ _ (congrArg₂ _ (congrArg₂ _ (congrArg₂ _ (congrArg₂ _ (congrArg₂ _ (congrArg₂ _ (congrArg₂ _
    (tap_apply X D 0 0 _ _ n h w d) (tap_apply X D 0 1 _ _ n h w d)) (tap_apply X D 0 2 _ _ n h w d))
    (tap_apply X D 1 0 _ _ n h w d)) (tap_apply X D 1 1 _ _ n h w d)) (tap_apply X D 1 2 _ _ n h w d))
    (tap_apply X D 2 0 _ _ n h w d)) (tap_apply X D 2 1 _ _ n h w d)) (tap_apply X D 2 2 _ _ n h w d)

theorem pointwiseConv_apply (Y : FVec Ideal S32x32x32x1024 .f32) (P : FVec Ideal S9x1024x1x1 .f32) (B : FVec Ideal S9 .f32)
    (n h w : Fin 32) (k : Fin 9) :
    pointwiseConv Y P B (ix4 n h w k) = (∑ d : Fin 1024, (Y (ix4 n h w d) : EReal) * P (ix4 k d 0 0)) + B (ix1 k) := by
  pointwise [pointwiseConv]

theorem softmaxes_apply (L : FVec Ideal S32x32x32x9 .f32) (n h w : Fin 32) (k : Fin 9) :
    softmaxes L (ix4 n h w k) = softmax (fun k => L (ix4 n h w k)) k := by
  pointwise [softmaxes, exps]
  have e := max_top (fun k => L (ix4 n h w k))
  unfold top at e
  rw [e]
  rfl

end Cert.ReferenceIdeal.Body

end
-- ==== Proof.Equal.lean ====
/-
  The two results agree where the pixels and the two kernels are real numbers: the kernel multiplies the depthwise and
  the pointwise entries first and sums over the channels inside each tap, the reference sums the taps first.
-/
module

public import proofs.«01_k».proof.Proof.Arrays
public import proofs.«01_k».proof.Proof.Blocks
public import proofs.«01_k».proof.Proof.Reference

@[expose] public section

set_option maxRecDepth 16384

noncomputable section

namespace Cert.KernelIdeal.Body

open Idealize.ShloMosaic Idealize.ShloMosaic.TcCoe Idealize.SL.Sem Cert.KernelIdeal Cert.KernelIdeal.Gen

/-- A product with a sum of products, summed, over the reals. -/
theorem sum_swap {α β : Type} [Fintype α] [Fintype β] (a b : β → α → EReal) (c : α → EReal)
    (ha : ∀ t d, ∃ r : ℝ, a t d = (r : EReal)) (hb : ∀ t d, ∃ r : ℝ, b t d = (r : EReal)) (hc : ∀ d, ∃ r : ℝ, c d = (r : EReal)) :
    ∑ d, (∑ t, a t d * b t d) * c d = ∑ t, ∑ d, a t d * (b t d * c d) := by
  choose a' ha' using ha
  choose b' hb' using hb
  choose c' hc' using hc
  have coe_sum : ∀ {γ : Type} [Fintype γ] (f : γ → ℝ), ∑ x, ((f x : ℝ) : EReal) = ((∑ x, f x : ℝ) : EReal) := by
    intro γ _ f
    exact (map_sum (⟨⟨Real.toEReal, EReal.coe_zero⟩, EReal.coe_add⟩ : ℝ →+ EReal) f Finset.univ).symm
  simp only [ha', hb', hc', ← EReal.coe_mul, coe_sum]
  rw [EReal.coe_eq_coe_iff, Finset.sum_comm]
  refine Finset.sum_congr rfl fun d _ => ?_
  rw [Finset.sum_mul]
  exact Finset.sum_congr rfl fun t _ => mul_assoc _ _ _

/-- One tap of the kernel, by image row and column. -/
theorem tap_eq (X : FVec Ideal S32x32x32x1024 .f32) (n h w : Fin 32) (t : Fin 9) (W : Fin 1024 → EReal) :
    (if Inside (32 * h.val + w.val) t then
      ∑ d : Fin 1024, (pixelsOf X (ix3 n (shift (32 * h.val + w.val) t) d) : EReal) * W d else 0)
      = ∑ d, Cert.ReferenceIdeal.Body.moved X n h w (t / 3) (t % 3) d * W d := by
  unfold Cert.ReferenceIdeal.Body.moved
  by_cases q : (1 ≤ h.val + t.val / 3 ∧ h.val + t.val / 3 ≤ 32) ∧ (1 ≤ w.val + t.val % 3 ∧ w.val + t.val % 3 ≤ 32)
  · rw [if_pos (by unfold Inside; omega)]
    simp only [dif_pos q]
    refine Finset.sum_congr rfl fun d _ => ?_
    rw [pixelsOf_apply]
    have e1 : (shift (32 * h.val + w.val) t.val).val / 32 = h + t / 3 - 1 := by
      simp only [shift]; omega
    have e2 : (shift (32 * h.val + w.val) t.val).val % 32 = w + t % 3 - 1 := by
      simp only [shift]; omega
    simp only [e1, e2]
  · rw [if_neg (by unfold Inside; omega)]
    simp only [dif_neg q, zero_mul, Finset.sum_const_zero]

/-- The two values agree at each pixel and class. -/
theorem value_eq (X : FVec Ideal S32x32x32x1024 .f32) (D : FVec Ideal S1024x1x3x3 .f32) (P : FVec Ideal S9x1024x1x1 .f32)
    (B : FVec Ideal S9 .f32) (hX : ∀ i, ∃ r : ℝ, X i = (r : EReal)) (hD : ∀ i, ∃ r : ℝ, D i = (r : EReal))
    (hP : ∀ i, ∃ r : ℝ, P i = (r : EReal)) (n h w : Fin 32) (k : Fin 9) :
    value (pixelsOf X) (weightsOf D P) (biasOf B) n ⟨32 * h + w, by omega⟩ k
      = Cert.ReferenceIdeal.Body.result X D P B (ix4 n h w k) := by
  unfold value Cert.ReferenceIdeal.Body.result
  rw [Cert.ReferenceIdeal.Body.softmaxes_apply]
  refine congrArg (softmax · k) (funext fun k => ?_)
  rw [Cert.ReferenceIdeal.Body.pointwiseConv_apply, biasOf_apply]
  refine congrArg (· + (B (ix1 k) : EReal)) ?_
  simp only [Cert.ReferenceIdeal.Body.depthwise_apply]
  refine ((Finset.sum_congr rfl fun t _ => (tap_eq X n h w t _).trans ?_).trans (sum_swap
    (fun (t : Fin 9) d => Cert.ReferenceIdeal.Body.moved X n h w (t / 3) (t % 3) d)
    (fun (t : Fin 9) d => D (ix4 d 0 ⟨t / 3, by omega⟩ ⟨t % 3, by omega⟩)) (fun d => P (ix4 k d 0 0)) ?_ ?_ ?_).symm)
  · simp only [weightsOf_apply]
  · intro t d
    unfold Cert.ReferenceIdeal.Body.moved
    split
    · exact hX _
    · exact ⟨0, rfl⟩
  · exact fun _ _ => hD _
  · exact fun _ => hP _

/-- The kernel's result is the reference's. -/
theorem exit_eq (m : (ℓ : Loc nD τ sig) → Buf (Elt Ideal) ℓ) (c : Dev nD) (X : FVec Ideal S32x32x32x1024 .f32)
    (D : FVec Ideal S1024x1x3x3 .f32) (P : FVec Ideal S9x1024x1x1 .f32) (B : FVec Ideal S9 .f32)
    (eX : m ((c.tc : Thread nD τ).loc main_arg0) = X) (eD : m ((c.tc : Thread nD τ).loc main_arg1) = D)
    (eP : m ((c.tc : Thread nD τ).loc main_arg2) = P) (eB : m ((c.tc : Thread nD τ).loc main_arg3) = B)
    (hX : ∀ i, ∃ r : ℝ, X i = (r : EReal)) (hD : ∀ i, ∃ r : ℝ, D i = (r : EReal)) (hP : ∀ i, ∃ r : ℝ, P i = (r : EReal)) :
    Pipeline.afterTail₀ cfgs (dats m) 0 (V0 m) [hostOps1] c main_v15 = Cert.ReferenceIdeal.Body.result X D P B := by
  rw [exit_value, first, second, entry_v0, entry_v9, entry_v10, eX, eD, eP, eB]
  funext i
  obtain ⟨n, h, w, k, rfl⟩ : ∃ (n h w : Fin 32) (k : Fin 9), i = ix4 n h w k := ⟨i 0, i 1, i 2, i 3, by
    funext a; fin_cases a <;> rfl⟩
  rw [resultOf_apply, ← value_eq X D P B hX hD hP n h w k]
  split
  · refine .trans (half_apply 0 _ _ _ (n.val / 4) (by omega) ⟨n.val % 4 % 2, by omega⟩ _ _) ?_
    refine congrArg (fun n => value (pixelsOf X) (weightsOf D P) (biasOf B) n ⟨32 * h + w, by omega⟩ k) (Fin.ext ?_)
    show 4 * (n.val / 4) + 2 * 0 + n.val % 4 % 2 = n.val
    omega
  · refine .trans (half_apply 1 _ _ _ (n.val / 4) (by omega) ⟨n.val % 4 % 2, by omega⟩ _ _) ?_
    refine congrArg (fun n => value (pixelsOf X) (weightsOf D P) (biasOf B) n ⟨32 * h + w, by omega⟩ k) (Fin.ext ?_)
    show 4 * (n.val / 4) + 2 * 1 + n.val % 4 % 2 = n.val
    omega

end Cert.KernelIdeal.Body

end
-- ==== Proof.Finite.lean ====
/-
  The precondition read back: where the predicate is true, every pixel entry and every entry of the two kernels is
  a real number.
-/
module

public import proofs.«01_k».proof.Pre_finite_inputs
public import Idealize.ShloMosaic.Lib.Affine
public import Idealize.ShloMosaic.Lib.Decide
public import Idealize.ShloMosaic.Lib.Exec
public import Idealize.ShloMosaic.Lib.Pointwise
public import Idealize.ShloMosaic.Lib.ReduceAll

@[expose] public section

set_option maxRecDepth 16384

noncomputable section

namespace Cert.Pre_finite_inputs.Read

open Idealize.ShloMosaic Cert.Pre_finite_inputs

/-- The predicate's side conditions. -/
theorem facts : Facts where
  bcast_S_S32x32x32x1024 := by decide
  reducesTo_S32x32x32x1024_S_d0_1_2_3 := by decide
  h_S_ := by decide
  bcast_S_S1024x1x3x3 := by decide
  reducesTo_S1024x1x3x3_S_d0_1_2_3 := by decide
  bcast_S_S9x1024x1x1 := by decide
  reducesTo_S9x1024x1x1_S_d0_1_2_3 := by decide

/-- The word the entries are compared with is plus infinity. -/
theorem ofBits_inf : Ideal.ofBits FTy.f32 0x7F800000#32 = (⊤ : EReal) := by simp [Ideal.ofBits, Ideal.ieee]

/-- An extended real whose magnitude is below plus infinity is a real number. -/
theorem real_of_lt (x : EReal) (h : (FloatOps.cmpf (F := Ideal) (φ := .f32) .olt (FloatOps.absf (F := Ideal) (φ := .f32) x)
    (Ideal.ofBits FTy.f32 0x7F800000#32)) = 1#1) : ∃ r : ℝ, x = (r : EReal) := by
  rw [ofBits_inf] at h
  have h' : max x (-x) < ⊤ := by
    have := h
    simp only [FloatOps.cmpf, FloatOps.absf, Ideal.cmp] at this
    by_contra q
    simp [q] at this
  induction x with
  | bot => simp at h'
  | top => simp at h'
  | coe r => exact ⟨r, rfl⟩

instance : Subsingleton S_.Idx := ⟨fun a b => funext fun k => k.elim0⟩

variable [Facts]

theorem real_inputs (X : FVec Ideal S32x32x32x1024 .f32) (D : FVec Ideal S1024x1x3x3 .f32) (P : FVec Ideal S9x1024x1x1 .f32)
    (B : FVec Ideal S9 .f32) (h : fn (F := Ideal) X D P B = fun _ => 1#1) :
    (∀ i, ∃ r : ℝ, X i = (r : EReal)) ∧ (∀ i, ∃ r : ℝ, D i = (r : EReal)) ∧ (∀ i, ∃ r : ℝ, P i = (r : EReal)) := by
  have e := congrFun h (fun k => k.elim0)
  obtain ⟨e, eP⟩ := IntOp.andi_eq_one.1 e
  obtain ⟨eX, eD⟩ := IntOp.andi_eq_one.1 e
  exact ⟨fun i => real_of_lt _ (Host.reduce_andi_all _ _ _ _ _ eX i), fun i => real_of_lt _ (Host.reduce_andi_all _ _ _ _ _ eD i),
    fun i => real_of_lt _ (Host.reduce_andi_all _ _ _ _ _ eP i)⟩

end Cert.Pre_finite_inputs.Read

end
-- ==== Proof.lean ====
/-
  The proof of `Cert.Claim` (Defs.lean). The three programs' runs are generated; the counters and the arguments come from
  them. The value claim: the kernel's two result windows are closed in Proof/Blocks.lean, the arrays they are read from
  and joined into in Proof/Arrays.lean, the reference is read at an index in Proof/Reference.lean, and Proof/Equal.lean
  shows that the two are equal where the pixels and the two kernels are real numbers.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equal
public import proofs.«01_k».proof.Proof.Finite
public import Idealize.ShloMosaic.Adequacy
public import Idealize.ShloMosaic.Init

@[expose] public section

set_option maxRecDepth 16384

noncomputable section

-- The claims about Kernel, KernelIdeal, ReferenceIdeal also say that every semaphore counter ends at zero; the proof shows that too.

namespace Cert.Proof

open Idealize.ShloMosaic Idealize.SL.Sem

/-- The reference's run leaves its arguments and counters as the claim says. -/
theorem frame_reference : Cert.quiescent_ReferenceIdeal := by
  intro m g _
  exact (θ_run Cert.ReferenceIdeal.defs _ _).mono (fun r h => ⟨fun c => (h c).2, Idealize.ShloMosaic.sem_eq_zero_of_no_sems (by decide) r.2⟩)
    (Cert.ReferenceIdeal.Value.run m g)

/-- The kernel's result is the reference's, element by element. -/
theorem value [Cert.Pre_finite_inputs.Facts] : Cert.algebraic_KernelIdeal_ReferenceIdeal_pre_finite_inputs := by
  intro m g m' g' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v15, ?_, ?_⟩
  · refine (θ_run Cert.KernelIdeal.defs _ _).mono (fun r h c => ?_)
      (θ_run_and (Cert.KernelIdeal.Gen.run_main m g) (Cert.KernelIdeal.Gen.unchanged m g))
    exact ⟨(h.1 c).2 Cert.KernelIdeal.main_v15 (by decide), h.2 c⟩
  · refine (θ_run Cert.ReferenceIdeal.defs _ _).mono (fun r h c => ⟨?_, (h c).2⟩) (Cert.ReferenceIdeal.Value.run m' g')
    refine ((h c).1.trans (Cert.ReferenceIdeal.Body.result_eq m' c)).trans ?_
    obtain ⟨hX, hD, hP⟩ := Cert.Pre_finite_inputs.Read.real_inputs _ _ _ _ (hpre c)
    obtain ⟨e0, e1, e2, e3⟩ := hagree c
    exact (Cert.KernelIdeal.Body.exit_eq m c _ _ _ _ e0.symm e1.symm e2.symm e3.symm (e0 ▸ hX) (e1 ▸ hD) (e2 ▸ hP)).symm

theorem claim : Cert.Claim := ⟨Cert.Kernel.Gen.facts, Cert.KernelIdeal.Gen.facts, Cert.ReferenceIdeal.Gen.facts,
  Cert.Pre_finite_inputs.Read.facts,
  fun m g _ => Cert.Kernel.Gen.frame m g,
  fun m g _ => Cert.KernelIdeal.Gen.frame m g,
  fun m g _ => Cert.KernelIdeal.Gen.frame m g,
  frame_reference,
  fun m g _ => frame_reference m g trivial,
  trivial,
  @value Cert.Pre_finite_inputs.Read.facts⟩

end Cert.Proof

end
